-- ==== Defs.lean ====
def Pre_Kernel [hPre_state_positive : Cert.Pre_state_positive.Facts] (m : (ℓ : Loc Cert.Kernel.nD Cert.Kernel.τ Cert.Kernel.sig) → Buf (Elt Bits) ℓ) : Prop :=
  ∀ c : Dev Cert.Kernel.nD,
    (Cert.Pre_state_positive.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_state_positive : Cert.Pre_state_positive.Facts] (m : (ℓ : Loc Cert.KernelIdeal.nD Cert.KernelIdeal.τ Cert.KernelIdeal.sig) → Buf (Elt Ideal) ℓ) : Prop :=
  ∀ c : Dev Cert.KernelIdeal.nD,
    (Cert.Pre_state_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_state_positive : Cert.Pre_state_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_state_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_state_positive : Cert.Pre_state_positive.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_state_positive : Cert.Pre_state_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_state_positive : Cert.Pre_state_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_state_positive : Cert.Pre_state_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v3_2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_state_positive : Cert.Pre_state_positive.Facts),
    quiescent_Kernel (hKernel := hKernel) (hPre_state_positive := hPre_state_positive)
    ∧ quiescent_KernelIdeal (hKernelIdeal := hKernelIdeal) (hPre_state_positive := hPre_state_positive)
    ∧ quiescent_ReferenceIdeal (hReferenceIdeal := hReferenceIdeal) (hPre_state_positive := hPre_state_positive)
    ∧ preserves_Kernel_KernelIdeal
    ∧ algebraic_KernelIdeal_ReferenceIdeal (hKernelIdeal := hKernelIdeal) (hReferenceIdeal := hReferenceIdeal) (hPre_state_positive := hPre_state_positive)
-- ==== Pre_state_positive.lean ====
abbrev S64x2x4000x96 : Shape := ⟨4, ![64, 2, 4000, 96]⟩
abbrev S1x1x96 : Shape := ⟨3, ![1, 1, 96]⟩
abbrev S_ : Shape := ⟨0, ![]⟩

class Facts : Prop where
  bcast_S_S1x1x96 : S_.BroadcastsInDim S1x1x96 (![] : Fin 0 → Fin S1x1x96.rank)

variable [Facts]

def fn {F : FTy → Type} [FloatOps F] (main_arg0 : FVec F S64x2x4000x96 .f32) (main_arg1 : FVec F S1x1x96 .f32) : IVec S1x1x96 1 :=
  let main_cst : FVec F S_ .f32 := constant S_ .f32 0x00000000#32
  let main_v0 : FVec F S1x1x96 .f32 := broadcastInDim S1x1x96 ![] bcast_S_S1x1x96 main_cst
  let main_v1 : IVec S1x1x96 1 := cmpf .ogt main_arg1 main_v0
  main_v1
-- ==== Kernel.lean ====
abbrev S64x2x4000x96 : Shape := ⟨4, ![64, 2, 4000, 96]⟩
abbrev S1x1x96 : Shape := ⟨3, ![1, 1, 96]⟩
abbrev S200 : Shape := ⟨1, ![200]⟩
abbrev S200x1 : Shape := ⟨2, ![200, 1]⟩
abbrev S1x200 : Shape := ⟨2, ![1, 200]⟩
abbrev S200x200 : Shape := ⟨2, ![200, 200]⟩
abbrev S_ : Shape := ⟨0, ![]⟩
abbrev S200x96 : Shape := ⟨2, ![200, 96]⟩
abbrev S64x1x96 : Shape := ⟨3, ![64, 1, 96]⟩
abbrev S1x2x4000x96 : Shape := ⟨4, ![1, 2, 4000, 96]⟩
abbrev S1x96 : Shape := ⟨2, ![1, 96]⟩
abbrev S1x1x200x96 : Shape := ⟨4, ![1, 1, 200, 96]⟩

abbrev nBuf : Space → Nat
  | .hbm => 38
  | .vmem => 9
  | .smem => 0
  | _ => 0

abbrev bufTy : (tb : Table) → Fin (tcTables nBuf tb) → BufTy
  | .hbm, ⟨0, _⟩ => ⟨S64x2x4000x96, .f32⟩
  | .hbm, ⟨1, _⟩ => ⟨S1x1x96, .f32⟩
  | .hbm, ⟨2, _⟩ => ⟨S200, .f32⟩
  | .hbm, ⟨3, _⟩ => ⟨S200x1, .f32⟩
  | .hbm, ⟨4, _⟩ => ⟨S1x200, .f32⟩
  | .hbm, ⟨5, _⟩ => ⟨S200x200, .f32⟩
  | .hbm, ⟨6, _⟩ => ⟨S200x200, .f32⟩
  | .hbm, ⟨7, _⟩ => ⟨S200x200, .f32⟩
  | .hbm, ⟨8, _⟩ => ⟨S_, .f32⟩
  | .hbm, ⟨9, _⟩ => ⟨S200x200, .f32⟩
  | .hbm, ⟨10, _⟩ => ⟨S200x200, .f32⟩
  | .hbm, ⟨11, _⟩ => ⟨S_, .f32⟩
  | .hbm, ⟨12, _⟩ => ⟨S200x200, .f32⟩
  | .hbm, ⟨13, _⟩ => ⟨S200x200, .f32⟩
  | .hbm, ⟨14, _⟩ => ⟨S_, .f32⟩
  | .hbm, ⟨15, _⟩ => ⟨S200x200, .f32⟩
  | .hbm, ⟨16, _⟩ => ⟨S200x200, .f32⟩
  | .hbm, ⟨17, _⟩ => ⟨S200x200, .i32⟩
  | .hbm, ⟨18, _⟩ => ⟨S_, .i32⟩
  | .hbm, ⟨19, _⟩ => ⟨S200x200, .i32⟩
  | .hbm, ⟨20, _⟩ => ⟨S200x200, .i32⟩
  | .hbm, ⟨21, _⟩ => ⟨S200x200, .i32⟩
  | .hbm, ⟨22, _⟩ => ⟨S200x200, .i1⟩
  | .hbm, ⟨23, _⟩ => ⟨S_, .f32⟩
  | .hbm, ⟨24, _⟩ => ⟨S200x200, .f32⟩
  | .hbm, ⟨25, _⟩ => ⟨S200x200, .f32⟩
  | .hbm, ⟨26, _⟩ => ⟨S200x200, .bf16⟩
  | .hbm, ⟨27, _⟩ => ⟨S200, .f32⟩
  | .hbm, ⟨28, _⟩ => ⟨S_, .f32⟩
  | .hbm, ⟨29, _⟩ => ⟨S200, .f32⟩
  | .hbm, ⟨30, _⟩ => ⟨S200, .f32⟩
  | .hbm, ⟨31, _⟩ => ⟨S_, .f32⟩
  | .hbm, ⟨32, _⟩ => ⟨S200, .f32⟩
  | .hbm, ⟨33, _⟩ => ⟨S200, .f32⟩
  | .hbm, ⟨34, _⟩ => ⟨S200x1, .f32⟩
  | .hbm, ⟨35, _⟩ => ⟨S200x96, .f32⟩
  | .hbm, ⟨36, _⟩ => ⟨S64x2x4000x96, .f32⟩
  | .hbm, ⟨37, _⟩ => ⟨S64x1x96, .f32⟩
  | .local _ .vmem, ⟨0, _⟩ => ⟨S200x200, .bf16⟩
  | .local _ .vmem, ⟨1, _⟩ => ⟨S200x96, .f32⟩
  | .local _ .vmem, ⟨2, _⟩ => ⟨S1x1x96, .f32⟩
  | .local _ .vmem, ⟨3, _⟩ => ⟨S1x2x4000x96, .f32⟩
  | .local _ .vmem, ⟨4, _⟩ => ⟨S1x2x4000x96, .f32⟩
  | .local _ .vmem, ⟨5, _⟩ => ⟨S1x2x4000x96, .f32⟩
  | .local _ .vmem, ⟨6, _⟩ => ⟨S1x2x4000x96, .f32⟩
  | .local _ .vmem, ⟨7, _⟩ => ⟨S1x1x96, .f32⟩
  | .local _ .vmem, ⟨8, _⟩ => ⟨S1x1x96, .f32⟩
  | _, _ => ⟨S64x2x4000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_cst : Ref sig .tc := ⟨.hbm, 23, rfl⟩
abbrev main_call0_v5 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S200x200 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S200x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2x4000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x4000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x2x4000x96 : Shape := ⟨4, ![64, 2, 4000, 96]⟩
abbrev S1x1x96 : Shape := ⟨3, ![1, 1, 96]⟩
abbrev S64x1x96 : Shape := ⟨3, ![64, 1, 96]⟩
abbrev S4000x64x2x96 : Shape := ⟨4, ![4000, 64, 2, 96]⟩
abbrev S_ : Shape := ⟨0, ![]⟩
abbrev S1x64x2x96 : Shape := ⟨4, ![1, 64, 2, 96]⟩
abbrev S64x2x96 : Shape := ⟨3, ![64, 2, 96]⟩
abbrev S64x96 : Shape := ⟨2, ![64, 96]⟩

abbrev nBuf : Space → Nat
  | .hbm => 40
  | .vmem => 0
  | .smem => 0
  | _ => 0

abbrev bufTy : (tb : Table) → Fin (tcTables nBuf tb) → BufTy
  | .hbm, ⟨0, _⟩ => ⟨S64x2x4000x96, .f32⟩
  | .hbm, ⟨1, _⟩ => ⟨S1x1x96, .f32⟩
  | .hbm, ⟨2, _⟩ => ⟨S64x1x96, .f32⟩
  | .hbm, ⟨3, _⟩ => ⟨S4000x64x2x96, .f32⟩
  | .hbm, ⟨4, _⟩ => ⟨S_, .f32⟩
  | .hbm, ⟨5, _⟩ => ⟨S4000x64x2x96, .f32⟩
  | .hbm, ⟨6, _⟩ => ⟨S_, .i32⟩
  | .hbm, ⟨7, _⟩ => ⟨S4000x64x2x96, .f32⟩
  | .hbm, ⟨8, _⟩ => ⟨S_, .i32⟩
  | .hbm, ⟨9, _⟩ => ⟨S64x1x96, .f32⟩
  | .hbm, ⟨10, _⟩ => ⟨S4000x64x2x96, .f32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1x64x2x96, .f32⟩
  | .hbm, ⟨17, _⟩ => ⟨S64x2x96, .f32⟩
  | .hbm, ⟨18, _⟩ => ⟨S64x2x96, .f32⟩
  | .hbm, ⟨19, _⟩ => ⟨S_, .f32⟩
  | .hbm, ⟨20, _⟩ => ⟨S64x96, .f32⟩
  | .hbm, ⟨21, _⟩ => ⟨S64x1x96, .f32⟩
  | .hbm, ⟨22, _⟩ => ⟨S_, .f32⟩
  | .hbm, ⟨23, _⟩ => ⟨S64x1x96, .f32⟩
  | .hbm, ⟨24, _⟩ => ⟨S64x1x96, .f32⟩
  | .hbm, ⟨25, _⟩ => ⟨S_, .f32⟩
  | .hbm, ⟨26, _⟩ => ⟨S64x1x96, .f32⟩
  | .hbm, ⟨27, _⟩ => ⟨S64x1x96, .f32⟩
  | .hbm, ⟨28, _⟩ => ⟨S64x1x96, .f32⟩
  | .hbm, ⟨29, _⟩ => ⟨S64x1x96, .f32⟩
  | .hbm, ⟨30, _⟩ => ⟨S64x2x96, .f32⟩
  | .hbm, ⟨31, _⟩ => ⟨S64x2x96, .f32⟩
  | .hbm, ⟨32, _⟩ => ⟨S1x64x2x96, .f32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S4000x64x2x96, .f32⟩
  | .hbm, ⟨37, _⟩ => ⟨S_, .i32⟩
  | .hbm, ⟨38, _⟩ => ⟨S_, .i32⟩
  | .hbm, ⟨39, _⟩ => ⟨S64x2x4000x96, .f32⟩
  | _, _ => ⟨S64x2x4000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_while0c_c_3 : Ref sig .tc := ⟨.hbm, 11, rfl⟩
abbrev main_while0c_v5 : Ref sig .tc := ⟨.hbm, 12, rfl⟩
abbrev main_while0b_call0_c : Ref sig .tc := ⟨.hbm, 13, rfl⟩
abbrev main_while0b_call0_c_0 : Ref sig .tc := ⟨.hbm, 14, rfl⟩
abbrev main_while0b_call0_c_1 : Ref sig .tc := ⟨.hbm, 15, rfl⟩
abbrev main_while0b_call0_v0 : Ref sig .tc := ⟨.hbm, 16, rfl⟩
abbrev main_while0b_v5 : Ref sig .tc := ⟨.hbm, 17, rfl⟩
abbrev main_while0b_v6 : Ref sig .tc := ⟨.hbm, 18, rfl⟩
abbrev main_while0b_cst_3 : Ref sig .tc := ⟨.hbm, 19, rfl⟩
abbrev main_while0b_v7 : Ref sig .tc := ⟨.hbm, 20, rfl⟩
abbrev main_while0b_v8 : Ref sig .tc := ⟨.hbm, 21, rfl⟩
abbrev main_while0b_cst_4 : Ref sig .tc := ⟨.hbm, 22, rfl⟩
abbrev main_while0b_v9 : Ref sig .tc := ⟨.hbm, 23, rfl⟩
abbrev main_while0b_v10 : Ref sig .tc := ⟨.hbm, 24, rfl⟩
abbrev main_while0b_cst_5 : Ref sig .tc := ⟨.hbm, 25, rfl⟩
abbrev main_while0b_v11 : Ref sig .tc := ⟨.hbm, 26, rfl⟩
abbrev main_while0b_v12 : Ref sig .tc := ⟨.hbm, 27, rfl⟩
abbrev main_while0b_v13 : Ref sig .tc := ⟨.hbm, 28, rfl⟩
abbrev main_while0b_v14 : Ref sig .tc := ⟨.hbm, 29, rfl⟩
abbrev main_while0b_v15 : Ref sig .tc := ⟨.hbm, 30, rfl⟩
abbrev main_while0b_v16 : Ref sig .tc := ⟨.hbm, 31, rfl⟩
abbrev main_while0b_call1_v0 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_c_1 : Ref sig .tc := ⟨.hbm, 35, rfl⟩
abbrev main_while0b_v17 : Ref sig .tc := ⟨.hbm, 36, rfl⟩
abbrev main_while0b_c_6 : Ref sig .tc := ⟨.hbm, 37, rfl⟩
abbrev main_while0b_v18 : Ref sig .tc := ⟨.hbm, 38, rfl⟩
abbrev main_v4 : Ref sig .tc := ⟨.hbm, 39, rfl⟩

abbrev nD : Nat := 1
abbrev τ : Topo := Topo.v7x

variable {F : FTy → Type} [FloatOps F]

abbrev main_while0_count : Scf.Loop 32 := ⟨0#32, 4000#32, 1#32⟩
-- ==== Proof.Chunk.lean ====
/-
  THE KERNEL'S BLOCK AS ONE RECURSION OVER ITS TWENTY CHUNKS, at any float values.

  The body is printed unrolled: twenty chunks of 200 time steps, each cut differently into payloads. Every chunk is the same
  function of the decay matrix, the carry powers, the carried row and the chunk's two channels (`average`), the carried row is
  the last row of the chunk before (`carry`), and the output block is the list of its two pieces per chunk (`pieces`). This
  module states that function and says that the printed block is it (`block_eq`, `state_eq`).
-/
module

public import proofs.«01_k».proof.Proof.Gen.KernelIdeal.Value

@[expose] public section

set_option maxRecDepth 16384

noncomputable section

namespace Cert.KernelIdeal.Chunk

open Cert.KernelIdeal Cert.KernelIdeal.Gen Idealize.ShloMosaic Idealize.ShloMosaic.TcCoe

variable {F : FTy → Type} [FloatOps F]

/-- The rows of one chunk lie inside the block. -/
theorem inb (ch : Fin 2) (k : ℕ) : ∀ a, (![0, ch.val, 200 * (k % 20), 0] : Fin 4 → ℕ) a + S1x1x200x96.size a ≤ S1x2x4000x96.size a := by
  have h2 := ch.isLt
  have hk : k % 20 < 20 := Nat.mod_lt _ (by omega)
  intro a
  match a with
  | ⟨0, _⟩ => show 0 + 1 ≤ 1; omega
  | ⟨1, _⟩ => show ch.val + 1 ≤ 2; omega
  | ⟨2, _⟩ => show 200 * (k % 20) + 200 ≤ 4000; omega
  | ⟨3, _⟩ => show 0 + 96 ≤ 96; omega

/-- Chunk `k` of channel `ch` in the block: rows `200 k` to `200 k + 199`. -/
abbrev rect (ch : Fin 2) (k : ℕ) : Rect S1x2x4000x96 :=
  Rect.unit (s := S1x2x4000x96) ![0, ch.val, 200 * (k % 20), 0] S1x1x200x96.size (inb ch k)

/-- The running averages of one chunk: the decay matrix times the sum of the squares, plus the carry powers times the carried row. -/
def average (A : FVec F S200x200 .bf16) (D : FVec F S200x96 .f32) (p : FVec F S1x96 .f32) (u v : FVec F S1x1x200x96 .f32) : FVec F S200x96 .f32 :=
  addf (matmul dot_S200x200_S200x96_S200x96_1_0_0_1_n_n none A
      (truncf .bf16 (addf
        (mulf (shapeCast S200x96 u shapeCasts_S1x1x200x96_S200x96) (shapeCast S200x96 u shapeCasts_S1x1x200x96_S200x96))
        (mulf (shapeCast S200x96 v shapeCasts_S1x1x200x96_S200x96) (shapeCast S200x96 v shapeCasts_S1x1x200x96_S200x96))) bitsLt_bf16_f32)
      (constant S200x96 .f32 0x00000000#32))
    (mulf D (broadcastTo S200x96 p broadcasts_S1x96_S200x96))

/-- The last row of a chunk's averages. -/
def last (s : FVec F S200x96 .f32) : FVec F S1x96 .f32 := extractStridedSlice S1x96 ![199, 0] s slices_S200x96_o199_0_S1x96

section
variable (x0 : Vec F S200x200 .bf16) (x1 : Vec F S200x96 .f32) (x2 : Vec F S1x1x96 .f32) (x3 : Vec F S1x2x4000x96 .f32)

/-- The decay matrix as the body loads it. -/
abbrev mat : FVec F S200x200 .bf16 := shapeCast S200x200 (View.ld x0 r0_0) shapeCasts_S200x200_S200x200
/-- The carry powers as the body loads them. -/
abbrev pows : FVec F S200x96 .f32 := shapeCast S200x96 (View.ld x1 r0_1) shapeCasts_S200x96_S200x96

/-- The row carried into chunk `k`. -/
def carry : ℕ → FVec F S1x96 .f32
  | 0 => shapeCast S1x96 (View.ld x2 r0_2) shapeCasts_S1x1x96_S1x96
  | k + 1 => last (average (mat x0) (pows x1) (carry k) (View.ld x3 (rect 0 k)) (View.ld x3 (rect 1 k)))

/-- The running averages of chunk `k`. -/
abbrev avg (k : ℕ) : FVec F S200x96 .f32 :=
  average (mat x0) (pows x1) (carry x0 x1 x2 x3 k) (View.ld x3 (rect 0 k)) (View.ld x3 (rect 1 k))

/-- What chunk `k` stores for channel `ch`: its rows times the reciprocal square root of the averages. -/
def stored (ch : Fin 2) (k : ℕ) : FVec F S1x1x200x96 .f32 :=
  shapeCast S1x1x200x96 (mulf (shapeCast S200x96 (View.ld x3 (rect ch k)) shapeCasts_S1x1x200x96_S200x96) (rsqrt (avg x0 x1 x2 x3 k)))
    shapeCasts_S200x96_S1x1x200x96

/-- The stores of the first `n` chunks, last first. -/
def pieces : ℕ → List (View.Piece (Elt F) S1x2x4000x96 .f32)
  | 0 => []
  | k + 1 => ⟨rect 1 k, stored x0 x1 x2 x3 1 k⟩ :: ⟨rect 0 k, stored x0 x1 x2 x3 0 k⟩ :: pieces k

/-! ## The values the printed body names along the way -/

theorem v27 : k0_pay138 x0 x1 x2 x3 = carry x0 x1 x2 x3 1 := rfl
theorem v61 : k0_pay139 x0 x1 x2 x3 = avg x0 x1 x2 x3 2 := by unfold k0_pay139; rw [v27]; rfl
theorem v93 : k0_pay140 x0 x1 x2 x3 = carry x0 x1 x2 x3 4 := by unfold k0_pay140; rw [v61]; rfl
theorem v127 : k0_pay141 x0 x1 x2 x3 = avg x0 x1 x2 x3 5 := by unfold k0_pay141; rw [v93]; rfl
theorem v149 : k0_pay142 x0 x1 x2 x3 = avg x0 x1 x2 x3 6 := by unfold k0_pay142; rw [v127]; rfl
theorem v181 : k0_pay143 x0 x1 x2 x3 = carry x0 x1 x2 x3 8 := by unfold k0_pay143; rw [v149]; rfl
theorem v215 : k0_pay145 x0 x1 x2 x3 = avg x0 x1 x2 x3 9 := by unfold k0_pay145; rw [v181]; rfl
theorem v247 : k0_pay146 x0 x1 x2 x3 = carry x0 x1 x2 x3 11 := by unfold k0_pay146; rw [v215]; rfl
theorem v281 : k0_pay148 x0 x1 x2 x3 = avg x0 x1 x2 x3 12 := by unfold k0_pay148; rw [v247]; rfl
theorem v313 : k0_pay149 x0 x1 x2 x3 = carry x0 x1 x2 x3 14 := by unfold k0_pay149; rw [v281]; rfl
theorem v347 : k0_pay152 x0 x1 x2 x3 = avg x0 x1 x2 x3 15 := by unfold k0_pay152; rw [v313]; rfl
theorem v379 : k0_pay153 x0 x1 x2 x3 = carry x0 x1 x2 x3 17 := by unfold k0_pay153; rw [v347]; rfl
theorem v413 : k0_pay155 x0 x1 x2 x3 = avg x0 x1 x2 x3 18 := by unfold k0_pay155; rw [v379]; rfl

/-- The printed output block is the canon of the twenty chunks' pieces. -/
theorem block_eq : out0_4 x0 x1 x2 x3 = View.canon (pieces x0 x1 x2 x3 20) := by
  unfold out0_4
  rw [v27, v61, v93, v127, v149, v181, v215, v247, v281, v313, v347, v379, v413]
  rfl

/-- The printed state block is the last row of the last chunk. -/
theorem state_eq : out0_5 x0 x1 x2 x3
    = View.canon [⟨r0_2, shapeCast S1x1x96 (carry x0 x1 x2 x3 20) shapeCasts_S1x96_S1x1x96⟩] := by
  unfold out0_5
  rw [v413]
  rfl

end

end Cert.KernelIdeal.Chunk

end
-- ==== Proof.Average.lean ====
/-
  THE RUNNING AVERAGE, over the extended reals: the recursion the reference runs step by step, its closed form over a stretch of
  steps, which is what the kernel's matrix product computes, and the fact that dividing by its square root is multiplying by its
  reciprocal square root.
-/
module

public import Idealize.ShloMosaic.PureOps.Ideal.Laws

@[expose] public section

noncomputable section

namespace Cert.Average

open Idealize.ShloMosaic

/-- The running average after `n` steps: each step weighs the new energy by `c` and the average so far by `d`. -/
def run (c d : EReal) (a : ℕ → EReal) (s : EReal) : ℕ → EReal
  | 0 => s
  | n + 1 => a n * c + run c d a s n * d

theorem run_zero (c d : EReal) (a : ℕ → EReal) (s : EReal) : run c d a s 0 = s := rfl

theorem run_succ (c d : EReal) (a : ℕ → EReal) (s : EReal) (n : ℕ) : run c d a s (n + 1) = a n * c + run c d a s n * d := rfl

/-- Only the energies of the steps taken matter. -/
theorem run_congr (c d : EReal) (a b : ℕ → EReal) (s : EReal) (n : ℕ) (h : ∀ j, j < n → a j = b j) : run c d a s n = run c d b s n := by
  induction n with
  | zero => rfl
  | succ n ih => rw [run_succ, run_succ, h n (Nat.lt_succ_self n), ih fun j hj => h j (Nat.lt_succ_of_lt hj)]

/-- Running `m` steps and then `n` more. -/
theorem run_add (c d : EReal) (a : ℕ → EReal) (s : EReal) (m n : ℕ) :
    run c d a s (m + n) = run c d (fun j => a (m + j)) (run c d a s m) n := by
  induction n with
  | zero => rfl
  | succ n ih => rw [← Nat.add_assoc, run_succ, run_succ, ih]

section
variable {c d : EReal} (hc : 0 ≤ c) (hd : 0 < d)

include hc hd

theorem run_pos {a : ℕ → EReal} {s : EReal} (ha : ∀ j, 0 ≤ a j) (hs : 0 < s) (n : ℕ) : 0 < run c d a s n := by
  induction n with
  | zero => exact hs
  | succ n ih => exact lt_of_lt_of_le (EReal.mul_pos ih hd) (le_add_of_nonneg_left (mul_nonneg (ha n) hc))

/-- The closed form over a stretch of `n` steps. -/
theorem run_closed {a : ℕ → EReal} {s : EReal} (ha : ∀ j, 0 ≤ a j) (hs : 0 ≤ s) (n : ℕ) :
    run c d a s n = (∑ j ∈ Finset.range n, c * d ^ (n - 1 - j) * a j) + d ^ n * s := by
  have hd0 : 0 ≤ d := le_of_lt hd
  have hp : ∀ i j, 0 ≤ c * d ^ i * a j := fun i j => mul_nonneg (mul_nonneg hc (pow_nonneg hd0 i)) (ha j)
  have hsum : ∀ (t : Finset ℕ) (f : ℕ → EReal), (∀ j, 0 ≤ f j) → (∑ j ∈ t, f j) * d = ∑ j ∈ t, f j * d := by
    intro t f hf
    induction t using Finset.induction_on with
    | empty => simp
    | insert x t hx ih =>
      rw [Finset.sum_insert hx, Finset.sum_insert hx, EReal.right_distrib_of_nonneg (hf x) (Finset.sum_nonneg fun j _ => hf j), ih]
  induction n with
  | zero => simp [run_zero]
  | succ n ih =>
    rw [run_succ, ih, EReal.right_distrib_of_nonneg (Finset.sum_nonneg fun j _ => hp _ j) (mul_nonneg (pow_nonneg hd0 n) hs),
      hsum _ _ (fun j => hp _ j), Finset.sum_range_succ]
    have hlast : c * d ^ (n + 1 - 1 - n) * a n = a n * c := by
      rw [show n + 1 - 1 - n = 0 by omega, pow_zero, mul_one, mul_comm]
    have hterm : ∑ j ∈ Finset.range n, c * d ^ (n - 1 - j) * a j * d = ∑ j ∈ Finset.range n, c * d ^ (n + 1 - 1 - j) * a j := by
      refine Finset.sum_congr rfl fun j hj => ?_
      have hj' := Finset.mem_range.mp hj
      rw [show n + 1 - 1 - j = (n - 1 - j) + 1 by omega, pow_succ]
      ac_rfl
    rw [hterm, hlast, pow_succ]
    have : d ^ n * s * d = d ^ n * d * s := by ac_rfl
    rw [this]
    ac_rfl

/-- The entry of the decay matrix in row `i`, column `j`. -/
theorem run_matrix {a : ℕ → EReal} {s : EReal} (ha : ∀ j, 0 ≤ a j) (hs : 0 ≤ s) {m : ℕ} (i : Fin m) :
    (∑ j : Fin m, (if j.val ≤ i.val then c * d ^ (i.val - j.val) else 0) * a j.val) + d ^ (i.val + 1) * s = run c d a s (i.val + 1) := by
  rw [run_closed hc hd ha hs]
  congr 1
  rw [Fin.sum_univ_eq_sum_range (fun j => (if j ≤ i.val then c * d ^ (i.val - j) else 0) * a j) m]
  have hsub : Finset.range (i.val + 1) ⊆ Finset.range m := by
    intro x hx
    have h1 := Finset.mem_range.mp hx
    have h2 := i.isLt
    exact Finset.mem_range.mpr (by omega)
  rw [← Finset.sum_subset hsub]
  · refine Finset.sum_congr rfl fun j hj => ?_
    have hj' := Finset.mem_range.mp hj
    rw [if_pos (by omega), show i.val + 1 - 1 - j = i.val - j by omega]
  · intro j _ hj
    have hj' : ¬ j < i.val + 1 := fun h => hj (Finset.mem_range.mpr h)
    rw [if_neg (by omega), zero_mul]

end

/-- Multiplying by the reciprocal square root of a positive number is dividing by its square root. -/
theorem mul_rsqrt (x s : EReal) (hs : 0 < s) : x * Ideal.rsqrt s = Ideal.div x (Ideal.sqrt s) := by
  induction s using EReal.rec with
  | bot => exact absurd hs (by simp)
  | top =>
    show x * 0 = Ideal.div x ⊤
    rw [Ideal.div, if_neg (by simp)]
    simp
  | coe r =>
    have hr : 0 < r := by exact_mod_cast hs
    have hq : 0 < Real.sqrt r := Real.sqrt_pos.mpr hr
    have h1 : Ideal.sqrt (r : EReal) = ((Real.sqrt r : ℝ) : EReal) := by
      rw [Ideal.sqrt_coe, if_neg (not_lt.mpr hr.le)]
    have h2 : Ideal.rsqrt (r : EReal) = (((Real.sqrt r)⁻¹ : ℝ) : EReal) := by
      rw [Ideal.rsqrt_coe, if_neg (not_lt.mpr hr.le), if_neg hr.ne']
    rw [h1, h2, Ideal.div, if_neg (by exact_mod_cast hq.ne'), EReal.coe_inv]

/-! ## The energy of a step -/

/-- A square is not negative. -/
theorem square_nonneg (x : EReal) : 0 ≤ x * x := by
  rcases le_total 0 x with h | h
  · exact mul_nonneg h h
  · have h' : 0 ≤ -x := EReal.neg_nonneg.mpr h
    have e : x * x = -x * -x := by rw [neg_mul_neg]
    rw [e]
    exact mul_nonneg h' h'

/-- The energy of step `t` of a two-channel signal of 4000 steps: the sum of the squares of the two channels. -/
def energy (g : Fin 2 → Fin 4000 → EReal) (t : ℕ) : EReal :=
  g 0 ⟨t % 4000, Nat.mod_lt _ (by omega)⟩ * g 0 ⟨t % 4000, Nat.mod_lt _ (by omega)⟩
    + g 1 ⟨t % 4000, Nat.mod_lt _ (by omega)⟩ * g 1 ⟨t % 4000, Nat.mod_lt _ (by omega)⟩

theorem energy_nonneg (g : Fin 2 → Fin 4000 → EReal) (t : ℕ) : 0 ≤ energy g t := add_nonneg (square_nonneg _) (square_nonneg _)

theorem energy_of_lt (g : Fin 2 → Fin 4000 → EReal) (t : Fin 4000) : energy g t.val = g 0 t * g 0 t + g 1 t * g 1 t := by
  have e : (⟨t.val % 4000, Nat.mod_lt _ (by omega)⟩ : Fin 4000) = t := Fin.ext (Nat.mod_eq_of_lt t.isLt)
  unfold energy
  rw [e]

/-! ## The two weights -/

/-- The weight of the new energy, as the programs write it. -/
abbrev fresh : EReal := Ideal.ofBits .f32 0x3C23D70A#32
/-- The weight of the average so far, as the programs write it. -/
abbrev kept : EReal := Ideal.ofBits .f32 0x3F7D70A4#32

theorem fresh_real : fresh = ((10737418 / 2 ^ 30 : ℝ) : EReal) := by
  simp [fresh, Ideal.ofBits, Ideal.ieee, -EReal.coe_mul]; norm_num

theorem kept_real : kept = ((16609444 / 2 ^ 24 : ℝ) : EReal) := by
  simp [kept, Ideal.ofBits, Ideal.ieee, -EReal.coe_mul]; norm_num

theorem fresh_nonneg : 0 ≤ fresh := by
  rw [fresh_real]; exact_mod_cast (by norm_num : (0 : ℝ) ≤ 10737418 / 2 ^ 30)

theorem kept_pos : 0 < kept := by
  rw [kept_real]; exact_mod_cast (by norm_num : (0 : ℝ) < 16609444 / 2 ^ 24)

/-- The running average of a two-channel signal before step `t`, from the state that comes in. -/
def mean (g : Fin 2 → Fin 4000 → EReal) (s : EReal) (t : ℕ) : EReal := run fresh kept (energy g) s t

theorem mean_zero (g : Fin 2 → Fin 4000 → EReal) (s : EReal) : mean g s 0 = s := rfl

theorem mean_succ (g : Fin 2 → Fin 4000 → EReal) (s : EReal) (t : ℕ) : mean g s (t + 1) = energy g t * fresh + mean g s t * kept := rfl

theorem mean_pos (g : Fin 2 → Fin 4000 → EReal) {s : EReal} (hs : 0 < s) (t : ℕ) : 0 < mean g s t :=
  run_pos fresh_nonneg kept_pos (energy_nonneg g) hs t

/-- A chunk of `n` steps starting at step `b`, as the decay matrix's row `i` computes it. -/
theorem mean_chunk (g : Fin 2 → Fin 4000 → EReal) {s : EReal} (hs : 0 < s) (b : ℕ) {n : ℕ} (i : Fin n) :
    (∑ j : Fin n, (if j.val ≤ i.val then fresh * kept ^ (i.val - j.val) else 0) * energy g (b + j.val)) + kept ^ (i.val + 1) * mean g s b
      = mean g s (b + (i.val + 1)) := by
  have h := run_matrix fresh_nonneg kept_pos (a := fun j => energy g (b + j)) (s := mean g s b) (fun j => energy_nonneg g _) (mean_pos g hs b).le i
  rw [h]
  exact (run_add _ _ _ _ _ _).symm

/-- The host's power of the kept weight at a whole exponent. -/
theorem pow_kept (n : ℕ) : Ideal.pow kept ((n : ℝ) : EReal) = kept ^ n := by
  rw [kept_real, Ideal.pow_coe_coe, ← EReal.coe_pow]
  congr 1
  exact Real.rpow_natCast _ n

end Cert.Average

end
-- ==== Proof.Block.lean ====
/-
  ONE BLOCK OF THE KERNEL OVER THE EXTENDED REALS: with the two tables in place and a positive state coming in, chunk `k`'s
  averages are the running averages of steps `200 k + 1` to `200 k + 200`, so the block the kernel leaves is every entry times
  the reciprocal square root of its step's running average, and the state it leaves is the running average after 4000 steps.
-/
module

public import proofs.«01_k».proof.Proof.Chunk
public import proofs.«01_k».proof.Proof.Average
public import Idealize.ShloMosaic.Lib.ValueIdx
public import Idealize.ShloMosaic.Lib.MatmulPlain
public import Idealize.ShloMosaic.Lib.Pipeline.Value
public import Idealize.ShloMosaic.Lib.Pipeline.ValueKit.Tiles
public import Idealize.ShloMosaic.Lib.ValueLayout

@[expose] public section

set_option maxRecDepth 16384

noncomputable section

namespace Cert.KernelIdeal.Block

open Cert.KernelIdeal Cert.KernelIdeal.Gen Cert.KernelIdeal.Chunk Idealize.ShloMosaic Idealize.ShloMosaic.TcCoe

/-! ## The layout operations of a chunk at an index -/

section
variable {α : Type}

theorem drop_apply (u : S1x1x200x96.Idx → α) (h : S1x1x200x96.ShapeCasts S200x96) (i : Fin 200) (f : Fin 96) :
    shapeCast S200x96 u h (ValueIdx.ix2 i f) = u (ValueIdx.ix4 0 0 i f) :=
  shapeCast_apply u h _ _ (by
    rw [Shape.rowMajor_val_four, Shape.rowMajor_val_two]
    show ((0 * 1 + 0) * 200 + i.val) * 96 + f.val = i.val * 96 + f.val
    omega)

theorem lift_apply (u : S200x96.Idx → α) (h : S200x96.ShapeCasts S1x1x200x96) (a b : Fin 1) (i : Fin 200) (f : Fin 96) :
    shapeCast S1x1x200x96 u h (ValueIdx.ix4 a b i f) = u (ValueIdx.ix2 i f) :=
  shapeCast_apply u h _ _ (by
    rw [Shape.rowMajor_val_four, Shape.rowMajor_val_two]
    show i.val * 96 + f.val = ((a.val * 1 + b.val) * 200 + i.val) * 96 + f.val
    omega)

theorem row_apply (p : S1x96.Idx → α) (h : S1x96.Broadcasts S200x96) (i : Fin 200) (f : Fin 96) :
    broadcastTo S200x96 p h (ValueIdx.ix2 i f) = p (ValueIdx.ix2 0 f) :=
  broadcastTo_apply p h _ _ (fun a => match a with | ⟨0, _⟩ => rfl | ⟨1, _⟩ => rfl)

end

theorem last_apply (s : FVec Ideal S200x96 .f32) (f : Fin 96) : last s (ValueIdx.ix2 0 f) = s (ValueIdx.ix2 ⟨199, by omega⟩ f) :=
  extractStridedSlice_apply _ _ _ _ _ (fun a => match a with | ⟨0, _⟩ => rfl | ⟨1, _⟩ => (Nat.zero_add _).symm)

/-- The averages of a chunk at an index. -/
theorem average_apply (A : FVec Ideal S200x200 .bf16) (D : FVec Ideal S200x96 .f32) (p : FVec Ideal S1x96 .f32)
    (u v : FVec Ideal S1x1x200x96 .f32) (i : Fin 200) (f : Fin 96) :
    average A D p u v (ValueIdx.ix2 i f)
      = (∑ j : Fin 200, A (ValueIdx.ix2 i j)
          * (u (ValueIdx.ix4 0 0 j f) * u (ValueIdx.ix4 0 0 j f) + v (ValueIdx.ix4 0 0 j f) * v (ValueIdx.ix4 0 0 j f)))
        + D (ValueIdx.ix2 i f) * p (ValueIdx.ix2 0 f) := by
  unfold average
  rw [ValueIdx.addf_apply, ValueIdx.mulf_apply, row_apply]
  refine congrArg (· + D (ValueIdx.ix2 i f) * p (ValueIdx.ix2 0 f)) ?_
  refine (Ideal.matmul_plain_apply none A _ _ i f).trans ?_
  rw [ValueIdx.constant_apply, Ideal.ofBits_zero_f32, zero_add]
  refine Finset.sum_congr rfl fun j _ => ?_
  rw [ValueIdx.truncf_apply, ValueIdx.addf_apply, ValueIdx.mulf_apply, ValueIdx.mulf_apply, drop_apply, drop_apply]

section
variable (x0 : Vec Ideal S200x200 .bf16) (x1 : Vec Ideal S200x96 .f32) (x2 : Vec Ideal S1x1x96 .f32) (x3 : Vec Ideal S1x2x4000x96 .f32)

/-- The two channels of frequency bin `f` of the block. -/
def bin (f : Fin 96) (ch : Fin 2) (t : Fin 4000) : EReal := x3 (ValueIdx.ix4 0 ch t f)

theorem rect_apply (ch : Fin 2) {k : ℕ} (hk : k < 20) (i : Fin 200) (f : Fin 96) :
    View.ld x3 (rect ch k) (ValueIdx.ix4 0 0 i f) = bin x3 f ch ⟨200 * k + i.val, by have := i.isLt; omega⟩ :=
  View.ld_unit_apply_of x3 _ _ _ _ _ (fun a => match a with
    | ⟨0, _⟩ => rfl
    | ⟨1, _⟩ => rfl
    | ⟨2, _⟩ => by show 200 * k + i.val = 200 * (k % 20) + i.val; rw [Nat.mod_eq_of_lt hk]
    | ⟨3, _⟩ => by show f.val = 0 + f.val; omega)

variable (hA : ∀ i j : Fin 200, x0 (ValueIdx.ix2 i j) = if j.val ≤ i.val then Average.fresh * Average.kept ^ (i.val - j.val) else 0)
  (hD : ∀ (i : Fin 200) (f : Fin 96), x1 (ValueIdx.ix2 i f) = Average.kept ^ (i.val + 1))
  (hs : ∀ f : Fin 96, 0 < x2 (ValueIdx.ix3 0 0 f))

/-- The running average of frequency bin `f` before step `t`. -/
def meanOf (f : Fin 96) (t : ℕ) : EReal := Average.mean (bin x3 f) (x2 (ValueIdx.ix3 0 0 f)) t

theorem mat_eq : mat x0 = x0 := by
  exact (shapeCast_self (s := S200x200) (View.ld x0 r0_0) _).trans
    (View.ld_unit_zero (by funext a; match a with | ⟨0, _⟩ => rfl | ⟨1, _⟩ => rfl) _ _)

theorem pows_eq : pows x1 = x1 := by
  exact (shapeCast_self (s := S200x96) (View.ld x1 r0_1) _).trans
    (View.ld_unit_zero (by funext a; match a with | ⟨0, _⟩ => rfl | ⟨1, _⟩ => rfl) _ _)

theorem carry_zero (f : Fin 96) : carry x0 x1 x2 x3 0 (ValueIdx.ix2 0 f) = meanOf x2 x3 f 0 := by
  show shapeCast S1x96 (View.ld x2 r0_2) shapeCasts_S1x1x96_S1x96 (ValueIdx.ix2 0 f) = x2 (ValueIdx.ix3 0 0 f)
  rw [View.ld_unit_zero (by funext a; match a with | ⟨0, _⟩ => rfl | ⟨1, _⟩ => rfl | ⟨2, _⟩ => rfl)]
  exact ValueIdx.shapeCast_1ab_ab_apply x2 _ 0 f

include hA hD hs in
/-- The averages of chunk `k`, when the carried row is right. -/
theorem avg_of_carry {k : ℕ} (hk : k < 20) (hc : ∀ f, carry x0 x1 x2 x3 k (ValueIdx.ix2 0 f) = meanOf x2 x3 f (200 * k))
    (i : Fin 200) (f : Fin 96) : avg x0 x1 x2 x3 k (ValueIdx.ix2 i f) = meanOf x2 x3 f (200 * k + (i.val + 1)) := by
  unfold avg
  rw [average_apply, mat_eq, pows_eq, hD, hc]
  refine Eq.trans ?_ (Average.mean_chunk (bin x3 f) (hs f) (200 * k) i)
  refine congrArg (· + _) (Finset.sum_congr rfl fun j _ => ?_)
  rw [hA, rect_apply x3 0 hk, rect_apply x3 1 hk]
  exact congrArg _ (Average.energy_of_lt (bin x3 f) ⟨200 * k + j.val, by have := j.isLt; omega⟩).symm

include hA hD hs in
/-- The row carried into chunk `k` is the running average before step `200 k`. -/
theorem carry_apply {k : ℕ} (hk : k ≤ 20) (f : Fin 96) : carry x0 x1 x2 x3 k (ValueIdx.ix2 0 f) = meanOf x2 x3 f (200 * k) := by
  induction k generalizing f with
  | zero => exact carry_zero x0 x1 x2 x3 f
  | succ k ih =>
    refine (last_apply _ f).trans ?_
    exact avg_of_carry x0 x1 x2 x3 hA hD hs (by omega) (fun f => ih (by omega) f) ⟨199, by omega⟩ f

include hA hD hs in
theorem avg_apply {k : ℕ} (hk : k < 20) (i : Fin 200) (f : Fin 96) :
    avg x0 x1 x2 x3 k (ValueIdx.ix2 i f) = meanOf x2 x3 f (200 * k + i.val + 1) :=
  avg_of_carry x0 x1 x2 x3 hA hD hs hk (carry_apply x0 x1 x2 x3 hA hD hs (by omega)) i f

/-- The block the kernel leaves. -/
def left (y : S1x2x4000x96.Idx) : EReal := x3 y * Ideal.rsqrt (meanOf x2 x3 (y 3) ((y 2).val + 1))

include hA hD hs in
/-- What a chunk stores is the block's chunk. -/
theorem stored_apply (ch : Fin 2) {k : ℕ} (hk : k < 20) (x : S1x1x200x96.Idx) :
    stored x0 x1 x2 x3 ch k x = left x2 x3 ((rect ch k).emb x) := by
  obtain ⟨a, b, i, f, rfl⟩ : ∃ a b i f, x = ValueIdx.ix4 a b i f := ⟨_, _, _, _, ValueIdx.eq_ix4 x⟩
  have hi : (⟨200 * k + i.val, by have := i.isLt; omega⟩ : Fin 4000).val = 200 * k + i.val := rfl
  have ha : a = 0 := Subsingleton.elim _ _
  have hb : b = 0 := Subsingleton.elim _ _
  subst ha hb
  have he : (rect ch k).emb (ValueIdx.ix4 0 0 i f) = ValueIdx.ix4 0 ch ⟨200 * k + i.val, by have := i.isLt; omega⟩ f := by
    funext d
    refine Fin.ext ((Rect.idx_unit_val _ _ _ _ d).trans ?_)
    match d with
    | ⟨0, _⟩ => rfl
    | ⟨1, _⟩ => rfl
    | ⟨2, _⟩ => show 200 * (k % 20) + i.val = 200 * k + i.val; rw [Nat.mod_eq_of_lt hk]
    | ⟨3, _⟩ => show 0 + f.val = f.val; omega
  rw [he]
  unfold stored
  rw [lift_apply, ValueIdx.mulf_apply, drop_apply, rect_apply x3 ch hk]
  show bin x3 f ch _ * Ideal.rsqrt (avg x0 x1 x2 x3 k (ValueIdx.ix2 i f)) = _
  rw [avg_apply x0 x1 x2 x3 hA hD hs hk]
  rfl

theorem of_mem_pieces {n : ℕ} {p : View.Piece (Elt Ideal) S1x2x4000x96 .f32} (h : p ∈ pieces x0 x1 x2 x3 n) :
    ∃ k ch, k < n ∧ p = ⟨rect ch k, stored x0 x1 x2 x3 ch k⟩ := by
  induction n with
  | zero => exact absurd h (List.not_mem_nil)
  | succ n ih =>
    rcases List.mem_cons.mp h with rfl | h
    · exact ⟨n, 1, by omega, rfl⟩
    rcases List.mem_cons.mp h with rfl | h
    · exact ⟨n, 0, by omega, rfl⟩
    obtain ⟨k, ch, hk, e⟩ := ih h
    exact ⟨k, ch, by omega, e⟩

theorem mem_pieces {n k : ℕ} (hk : k < n) (ch : Fin 2) :
    (⟨rect ch k, stored x0 x1 x2 x3 ch k⟩ : View.Piece (Elt Ideal) S1x2x4000x96 .f32) ∈ pieces x0 x1 x2 x3 n := by
  induction n with
  | zero => omega
  | succ n ih =>
    by_cases e : k = n
    · subst e
      match ch with
      | 0 => exact List.mem_cons_of_mem _ List.mem_cons_self
      | 1 => exact List.mem_cons_self
    · exact List.mem_cons_of_mem _ (List.mem_cons_of_mem _ (ih (by omega)))

/-- Every entry of the block lies in a chunk. -/
theorem cover (y : S1x2x4000x96.Idx) : ∃ p ∈ pieces x0 x1 x2 x3 20, y ∈ p.1.set := by
  have h0 : (y 0).val < 1 := (y 0).isLt
  have h2 : (y 2).val < 4000 := (y 2).isLt
  have h3 : (y 3).val < 96 := (y 3).isLt
  refine ⟨_, mem_pieces x0 x1 x2 x3 (show (y 2).val / 200 < 20 by omega) (y 1), ?_⟩
  refine (Rect.mem_set_unit (inb := inb (y 1) _)).mpr fun a => ?_
  match a with
  | ⟨0, _⟩ => exact ⟨Nat.zero_le _, h0⟩
  | ⟨1, _⟩ => exact ⟨le_refl _, Nat.lt_succ_self _⟩
  | ⟨2, _⟩ => show 200 * ((y 2).val / 200 % 20) ≤ (y 2).val ∧ (y 2).val < 200 * ((y 2).val / 200 % 20) + 200; omega
  | ⟨3, _⟩ => exact ⟨Nat.zero_le _, by show (y 3).val < 0 + 96; omega⟩

include hA hD hs in
theorem block_apply (y : S1x2x4000x96.Idx) : out0_4 x0 x1 x2 x3 y = left x2 x3 y := by
  rw [block_eq]
  refine View.canon_apply_of_pieces (left x2 x3) _ (fun p hp => ?_) y (cover x0 x1 x2 x3 y)
  obtain ⟨k, ch, hk, rfl⟩ := of_mem_pieces x0 x1 x2 x3 hp
  exact fun x => stored_apply x0 x1 x2 x3 hA hD hs ch hk x

include hA hD hs in
theorem state_apply (f : Fin 96) (a b : Fin 1) : out0_5 x0 x1 x2 x3 (ValueIdx.ix3 a b f) = meanOf x2 x3 f 4000 := by
  rw [state_eq, View.canon_unit_zero (by funext a; match a with | ⟨0, _⟩ => rfl | ⟨1, _⟩ => rfl | ⟨2, _⟩ => rfl)]
  refine (ValueIdx.shapeCast_ab_1ab_apply _ _ a b f).trans ?_
  have hb : b = 0 := Subsingleton.elim _ _
  subst hb
  exact carry_apply x0 x1 x2 x3 hA hD hs (le_refl 20) f

end

end Cert.KernelIdeal.Block

end
-- ==== Proof.Tables.lean ====
/-
  THE TWO TABLES THE HOST BUILDS before the kernel starts: the decay matrix (lower triangular, entry `c * d ^ (i - j)`) and the
  carry powers (row `i` is `d ^ (i + 1)`).
-/
module

public import proofs.«01_k».proof.Proof.Gen.KernelIdeal.Frame
public import proofs.«01_k».proof.Proof.Average
public import Idealize.ShloMosaic.Lib.ValueIdx
public import Idealize.ShloMosaic.Lib.Pointwise
public import Idealize.ShloMosaic.Lib.IdealHost
public import Idealize.ShloMosaic.Lib.WordCmp

@[expose] public section

set_option maxRecDepth 16384

noncomputable section

namespace Cert.KernelIdeal.Tables

open Cert.KernelIdeal Cert.KernelIdeal.Gen Idealize.ShloMosaic Idealize.ShloMosaic.TcCoe
open Idealize.SL.Sem

/-! ## The tables as terms -/

/-- The row number of every entry. -/
def count : FVec Ideal S200 .f32 := sitofp .f32 (iotaInDim S200 32 0)

/-- The exponents of the decay matrix. -/
def gap : FVec Ideal S200x200 .f32 :=
  maximumf (subf (broadcastInDim S200x200 ![0, 1] bcast_S200x1_S200x200_0_1 (broadcastInDim S200x1 ![0] bcast_S200_S200x1_0 count))
    (broadcastInDim S200x200 ![0, 1] bcast_S1x200_S200x200_0_1 (broadcastInDim S1x200 ![1] bcast_S200_S1x200_1 count)))
    (broadcastInDim S200x200 ![] bcast_S_S200x200 (constant S_ .f32 0x00000000#32))

/-- Where the row is not above the diagonal. -/
def lower : IVec S200x200 1 :=
  cmpi .sge (addi (iotaInDim S200x200 32 0) (broadcastInDim S200x200 ![] bcast_S_S200x200 (constantI S_ 32 0#32))) (iotaInDim S200x200 32 1)

/-- The decay matrix. -/
def matrix : FVec Ideal S200x200 .bf16 :=
  truncf .bf16 (select lower
    (mulf (broadcastInDim S200x200 ![] bcast_S_S200x200 (constant S_ .f32 0x3C23D70A#32))
      (Host.powf (broadcastInDim S200x200 ![] bcast_S_S200x200 (constant S_ .f32 0x3F7D70A4#32)) gap))
    (broadcastInDim S200x200 ![] bcast_S_S200x200 (constant S_ .f32 0x00000000#32))) bitsLt_bf16_f32

/-- The carry powers. -/
def powers : FVec Ideal S200x96 .f32 :=
  broadcastInDim S200x96 ![0, 1] bcast_S200x1_S200x96_0_1 (broadcastInDim S200x1 ![0] bcast_S200_S200x1_0
    (Host.powf (broadcastInDim S200 ![] bcast_S_S200 (constant S_ .f32 0x3F7D70A4#32))
      (addf (broadcastInDim S200 ![] bcast_S_S200 (constant S_ .f32 0x3F800000#32)) count)))

section
variable (m : (ℓ : Loc nD τ sig) → Buf (Elt Ideal) ℓ)

theorem entry_matrix (c : Dev nD) : V m c main_v13 = matrix := by
  show StableHlo.after (List.flatten [hostOps0, hostOps0_1, hostOps0_2]) (fun b => m (c, b)) (Proc.devRef .tc main_v13) = matrix
  simp only [hostOps0, hostOps0_1, hostOps0_2, List.flatten_cons, List.flatten_nil, List.append_nil, List.cons_append, List.nil_append]
  after_results
  rfl

theorem entry_powers (c : Dev nD) : V m c main_v20 = powers := by
  show StableHlo.after (List.flatten [hostOps0, hostOps0_1, hostOps0_2]) (fun b => m (c, b)) (Proc.devRef .tc main_v20) = powers
  simp only [hostOps0, hostOps0_1, hostOps0_2, List.flatten_cons, List.flatten_nil, List.append_nil, List.cons_append, List.nil_append]
  after_results
  rfl

end

/-! ## Their entries -/

theorem count_apply (i : S200.Idx) : count i = (((i 0).val : ℝ) : EReal) := by
  have hi : (i 0).val < 200 := (i 0).isLt
  show (((BitVec.ofNat 32 (i 0).val).toInt : ℝ) : EReal) = _
  rw [WordCmp.toInt_ofNat_of_lt (by omega)]
  simp

theorem gap_apply (i j : Fin 200) : gap (ValueIdx.ix2 i j) = max (((i.val : ℝ) : EReal) - ((j.val : ℝ) : EReal)) 0 := by
  show max (count _ - count _) (Ideal.ofBits .f32 0x00000000#32) = _
  rw [count_apply, count_apply, Ideal.ofBits_zero_f32]
  rfl

theorem lower_apply (i j : Fin 200) : lower (ValueIdx.ix2 i j) = if j.val ≤ i.val then 1#1 else 0#1 := by
  have hi := i.isLt
  have hj := j.isLt
  show IntOp.cmpi .sge (BitVec.ofNat 32 i.val + 0#32) (BitVec.ofNat 32 j.val) = _
  rw [BitVec.add_zero, WordCmp.cmpi_sge_ofNat (by omega) (by omega)]
  by_cases h : j.val ≤ i.val <;> simp [h]

theorem matrix_apply (i j : Fin 200) :
    matrix (ValueIdx.ix2 i j) = if j.val ≤ i.val then Average.fresh * Average.kept ^ (i.val - j.val) else 0 := by
  show Scalar.select (lower (ValueIdx.ix2 i j)) (Average.fresh * Ideal.pow Average.kept (gap (ValueIdx.ix2 i j))) (Ideal.ofBits .f32 0x00000000#32) = _
  rw [lower_apply, gap_apply, Ideal.ofBits_zero_f32]
  by_cases h : j.val ≤ i.val
  · have e : max (((i.val : ℝ) : EReal) - ((j.val : ℝ) : EReal)) 0 = (((i.val - j.val : ℕ) : ℝ) : EReal) := by
      rw [Nat.cast_sub h, EReal.coe_sub]
      exact max_eq_left (by exact_mod_cast sub_nonneg.mpr (by exact_mod_cast h : (j.val : ℝ) ≤ i.val))
    rw [if_pos h, if_pos h, e, Average.pow_kept]
    rfl
  · rw [if_neg h, if_neg h]
    rfl

theorem powers_apply (i : Fin 200) (f : Fin 96) : powers (ValueIdx.ix2 i f) = Average.kept ^ (i.val + 1) := by
  show Ideal.pow Average.kept (Ideal.ofBits .f32 0x3F800000#32 + count _) = _
  rw [count_apply, Ideal.ofBits_one_f32, ← Average.pow_kept]
  congr 1
  show (1 : EReal) + ((i.val : ℝ) : EReal) = _
  rw [Nat.cast_add, Nat.cast_one, EReal.coe_add, EReal.coe_one, add_comm]

end Cert.KernelIdeal.Tables

end
-- ==== Proof.Arrays.lean ====
/-
  THE KERNEL'S TWO RESULT ARRAYS over the extended reals. Grid point `t` takes batch `t`: its input block is that batch of the
  signal, the tables and the state are staged whole, and its two output blocks are that batch of the two results. So the first
  result is every entry of the signal times the reciprocal square root of its running average, and the second is the running
  average after the last step.
-/
module

public import proofs.«01_k».proof.Proof.Block
public import proofs.«01_k».proof.Proof.Tables

@[expose] public section

set_option maxRecDepth 16384

noncomputable section

namespace Cert.KernelIdeal.Arrays

open Cert.KernelIdeal Cert.KernelIdeal.Gen Cert.KernelIdeal.Value Idealize.ShloMosaic Idealize.ShloMosaic.TcCoe
open Idealize.SL.Sem

variable (m : (ℓ : Loc nD τ sig) → Buf (Elt Ideal) ℓ) (ρ : Dev nD → PrngReg)

/-- The signal. -/
abbrev signal (c : Dev nD) : S64x2x4000x96.Idx → EReal := m ((c : Thread nD τ).loc main_arg0)
/-- The state that comes in. -/
abbrev state (c : Dev nD) : S1x1x96.Idx → EReal := m ((c : Thread nD τ).loc main_arg1)

/-- The two channels of one batch and frequency bin. -/
def bins (X : S64x2x4000x96.Idx → EReal) (b : Fin 64) (f : Fin 96) (ch : Fin 2) (t : Fin 4000) : EReal := X (ValueIdx.ix4 b ch t f)

/-- The running average of batch `b`, frequency bin `f`, before step `t`. -/
def meanAt (X : S64x2x4000x96.Idx → EReal) (Z : S1x1x96.Idx → EReal) (b : Fin 64) (f : Fin 96) (t : ℕ) : EReal :=
  Average.mean (bins X b f) (Z (ValueIdx.ix3 0 0 f)) t

/-- The first result. -/
def scaled (X : S64x2x4000x96.Idx → EReal) (Z : S1x1x96.Idx → EReal) (i : S64x2x4000x96.Idx) : EReal :=
  X i * Ideal.rsqrt (meanAt X Z (i 0) (i 3) ((i 2).val + 1))

/-- The second result. -/
def final (X : S64x2x4000x96.Idx → EReal) (Z : S1x1x96.Idx → EReal) (i : S64x1x96.Idx) : EReal := meanAt X Z (i 0) (i 2) 4000

/-! ## The blocks a grid point takes -/

theorem index_facts : ∀ t : Fin grid0.N,
    (win0_0.index t 0 = 0 ∧ win0_0.index t 1 = 0) ∧ (win0_1.index t 0 = 0 ∧ win0_1.index t 1 = 0)
    ∧ (win0_2.index t 0 = 0 ∧ win0_2.index t 1 = 0 ∧ win0_2.index t 2 = 0)
    ∧ (win0_3.index t 0 = t.val ∧ win0_3.index t 1 = 0 ∧ win0_3.index t 2 = 0 ∧ win0_3.index t 3 = 0)
    ∧ (win0_4.index t 0 = t.val ∧ win0_4.index t 1 = 0 ∧ win0_4.index t 2 = 0 ∧ win0_4.index t 3 = 0)
    ∧ (win0_5.index t 0 = t.val ∧ win0_5.index t 1 = 0 ∧ win0_5.index t 2 = 0) := by decide +kernel

/-- The batch of a grid point. -/
def batch (t : Fin cfg0.N) : Fin 64 := ⟨t.val, lt_of_lt_of_eq t.isLt N_0⟩

theorem block0 (c : Dev nD) (t : Fin cfg0.N) : (iblk m c 0 t : S200x200.Idx → EReal) = Tables.matrix := by
  obtain ⟨h0, h1⟩ := (index_facts t).1
  rw [← Tables.entry_matrix m c]
  funext j
  unfold iblk
  rw [View.read_apply]
  show V m c main_v13 _ = V m c main_v13 j
  refine congrArg (V m c main_v13) (funext fun a => Fin.ext ?_)
  match a with
  | ⟨0, _⟩ => show win0_0.index t 0 * 200 + 1 * (j 0).val = (j 0).val; rw [h0]; omega
  | ⟨1, _⟩ => show win0_0.index t 1 * 200 + 1 * (j 1).val = (j 1).val; rw [h1]; omega

theorem block1 (c : Dev nD) (t : Fin cfg0.N) : (iblk m c 1 t : S200x96.Idx → EReal) = Tables.powers := by
  obtain ⟨h0, h1⟩ := (index_facts t).2.1
  rw [← Tables.entry_powers m c]
  funext j
  unfold iblk
  rw [View.read_apply]
  show V m c main_v20 _ = V m c main_v20 j
  refine congrArg (V m c main_v20) (funext fun a => Fin.ext ?_)
  match a with
  | ⟨0, _⟩ => show win0_1.index t 0 * 200 + 1 * (j 0).val = (j 0).val; rw [h0]; omega
  | ⟨1, _⟩ => show win0_1.index t 1 * 96 + 1 * (j 1).val = (j 1).val; rw [h1]; omega

theorem block2 (c : Dev nD) (t : Fin cfg0.N) : (iblk m c 2 t : S1x1x96.Idx → EReal) = state m c := by
  obtain ⟨h0, h1, h2⟩ := (index_facts t).2.2.1
  unfold state
  rw [← V_main_arg1 m c]
  funext j
  unfold iblk
  rw [View.read_apply]
  show V m c main_arg1 _ = V m c main_arg1 j
  refine congrArg (V m c main_arg1) (funext fun a => Fin.ext ?_)
  match a with
  | ⟨0, _⟩ => show win0_2.index t 0 * 1 + 1 * (j 0).val = (j 0).val; rw [h0]; omega
  | ⟨1, _⟩ => show win0_2.index t 1 * 1 + 1 * (j 1).val = (j 1).val; rw [h1]; omega
  | ⟨2, _⟩ => show win0_2.index t 2 * 96 + 1 * (j 2).val = (j 2).val; rw [h2]; omega

theorem block3 (c : Dev nD) (t : Fin cfg0.N) (a : Fin 1) (ch : Fin 2) (r : Fin 4000) (f : Fin 96) :
    (iblk m c 3 t : S1x2x4000x96.Idx → EReal) (ValueIdx.ix4 a ch r f) = signal m c (ValueIdx.ix4 (batch t) ch r f) := by
  obtain ⟨h0, h1, h2, h3⟩ := (index_facts t).2.2.2.1
  unfold signal
  rw [← V_main_arg0 m c]
  unfold iblk
  rw [View.read_apply]
  show V m c main_arg0 _ = V m c main_arg0 _
  refine congrArg (V m c main_arg0) (funext fun d => Fin.ext ?_)
  match d with
  | ⟨0, _⟩ => show win0_3.index t 0 * 1 + 1 * a.val = t.val; rw [h0]; omega
  | ⟨1, _⟩ => show win0_3.index t 1 * 2 + 1 * ch.val = ch.val; rw [h1]; omega
  | ⟨2, _⟩ => show win0_3.index t 2 * 4000 + 1 * r.val = r.val; rw [h2]; omega
  | ⟨3, _⟩ => show win0_3.index t 3 * 96 + 1 * f.val = f.val; rw [h3]; omega

section
variable (hs : ∀ (c : Dev nD) (f : Fin 96), 0 < state m c (ValueIdx.ix3 0 0 f))

/-- The block's running average is the array's. -/
theorem meanOf_eq (c : Dev nD) (t : Fin cfg0.N) (f : Fin 96) (n : ℕ) :
    Block.meanOf (iblk m c 2 t) (iblk m c 3 t) f n = meanAt (signal m c) (state m c) (batch t) f n := by
  unfold Block.meanOf meanAt
  have e : Block.bin (iblk m c 3 t) f = bins (signal m c) (batch t) f := by
    funext ch r
    exact block3 m c t 0 ch r f
  rw [e]
  exact congrArg (fun z : S1x1x96.Idx → EReal => Average.mean (bins (signal m c) (batch t) f) (z (ValueIdx.ix3 0 0 f)) n) (block2 m c t)

include hs

theorem out4 (c : Dev nD) (t : Fin cfg0.N) (a : Fin 1) (ch : Fin 2) (r : Fin 4000) (f : Fin 96) :
    out0_4 (iblk m c 0 t) (iblk m c 1 t) (iblk m c 2 t) (iblk m c 3 t) (ValueIdx.ix4 a ch r f)
      = scaled (signal m c) (state m c) (ValueIdx.ix4 (batch t) ch r f) := by
  refine (Block.block_apply _ _ _ _ (fun i j => (congrFun (block0 m c t) _).trans (Tables.matrix_apply i j))
    (fun i f => (congrFun (block1 m c t) _).trans (Tables.powers_apply i f))
    (fun f => lt_of_lt_of_eq (hs c f) (congrFun (block2 m c t) _).symm) _).trans ?_
  unfold Block.left scaled
  exact congrArg₂ (fun x y : EReal => x * Ideal.rsqrt y) (block3 m c t a ch r f) (meanOf_eq m c t f (r.val + 1))

theorem out5 (c : Dev nD) (t : Fin cfg0.N) (a b : Fin 1) (f : Fin 96) :
    out0_5 (iblk m c 0 t) (iblk m c 1 t) (iblk m c 2 t) (iblk m c 3 t) (ValueIdx.ix3 a b f)
      = final (signal m c) (state m c) (ValueIdx.ix3 (batch t) b f) :=
  (Block.state_apply _ _ _ _ (fun i j => (congrFun (block0 m c t) _).trans (Tables.matrix_apply i j))
    (fun i f => (congrFun (block1 m c t) _).trans (Tables.powers_apply i f))
    (fun f => lt_of_lt_of_eq (hs c f) (congrFun (block2 m c t) _).symm) f a b).trans (meanOf_eq m c t f 4000)

/-! ## The arrays -/

theorem array4 (c : Dev nD) : (dats m 0 c).arrAt 4 cfg0.N = (scaled (signal m c) (state m c) : S64x2x4000x96.Idx → EReal) := by
  refine (dats m 0 c).arrAt_eq_of_cover 4 (scaled (signal m c) (state m c) : S64x2x4000x96.Idx → EReal) (fun t _ => ?_) fun i => ?_
  · obtain ⟨h0, h1, h2, h3⟩ := (index_facts t).2.2.2.2.1
    rw [flushed4]
    funext y
    rw [View.read_apply]
    have hy : y = ValueIdx.ix4 (y 0) (y 1) (y 2) (y 3) := ValueIdx.eq_ix4 (n0 := 1) (n1 := 2) (n2 := 4000) (n3 := 96) y
    refine ((congrArg (out0_4 (iblk m c 0 t) (iblk m c 1 t) (iblk m c 2 t) (iblk m c 3 t)) hy).trans
      (out4 m hs c t (y 0) (y 1) (y 2) (y 3))).trans ?_
    refine congrArg (scaled (signal m c) (state m c)) (funext fun d => Fin.ext ?_)
    have hy0 : (y 0).val < 1 := (y 0).isLt
    match d with
    | ⟨0, _⟩ => show t.val = win0_4.index t 0 * 1 + 1 * (y 0).val; rw [h0]; omega
    | ⟨1, _⟩ => show (y 1).val = win0_4.index t 1 * 2 + 1 * (y 1).val; rw [h1]; omega
    | ⟨2, _⟩ => show (y 2).val = win0_4.index t 2 * 4000 + 1 * (y 2).val; rw [h2]; omega
    | ⟨3, _⟩ => show (y 3).val = win0_4.index t 3 * 96 + 1 * (y 3).val; rw [h3]; omega
  · have i0 : (i 0).val < 64 := (i 0).isLt
    have i1 : (i 1).val < 2 := (i 1).isLt
    have i2 : (i 2).val < 4000 := (i 2).isLt
    have i3 : (i 3).val < 96 := (i 3).isLt
    refine ⟨⟨(i 0).val, lt_of_lt_of_eq i0 N_0.symm⟩, flush0_4 _, ?_⟩
    obtain ⟨h0, h1, h2, h3⟩ := (index_facts ⟨(i 0).val, lt_of_lt_of_eq i0 N_0.symm⟩).2.2.2.2.1
    replace h0 := h0.trans (show _ = (i 0).val from rfl)
    show (show S64x2x4000x96.Idx from i) ∈ ((View.whole main_v21_0).slice (win0_4.rect ⟨(i 0).val, lt_of_lt_of_eq i0 N_0.symm⟩)).set
    rw [View.set_slice_whole, Rect.mem_set_unit]
    intro d
    match d with
    | ⟨0, _⟩ => show win0_4.index _ 0 * 1 ≤ (i 0).val ∧ (i 0).val < win0_4.index _ 0 * 1 + 1; rw [h0]; omega
    | ⟨1, _⟩ => show win0_4.index _ 1 * 2 ≤ (i 1).val ∧ (i 1).val < win0_4.index _ 1 * 2 + 2; rw [h1]; omega
    | ⟨2, _⟩ => show win0_4.index _ 2 * 4000 ≤ (i 2).val ∧ (i 2).val < win0_4.index _ 2 * 4000 + 4000; rw [h2]; omega
    | ⟨3, _⟩ => show win0_4.index _ 3 * 96 ≤ (i 3).val ∧ (i 3).val < win0_4.index _ 3 * 96 + 96; rw [h3]; omega

theorem array5 (c : Dev nD) : (dats m 0 c).arrAt 5 cfg0.N = (final (signal m c) (state m c) : S64x1x96.Idx → EReal) := by
  refine (dats m 0 c).arrAt_eq_of_cover 5 (final (signal m c) (state m c) : S64x1x96.Idx → EReal) (fun t _ => ?_) fun i => ?_
  · obtain ⟨h0, h1, h2⟩ := (index_facts t).2.2.2.2.2
    rw [flushed5]
    funext y
    rw [View.read_apply]
    have hy : y = ValueIdx.ix3 (y 0) (y 1) (y 2) := ValueIdx.eq_ix3 (n0 := 1) (n1 := 1) (n2 := 96) y
    refine ((congrArg (out0_5 (iblk m c 0 t) (iblk m c 1 t) (iblk m c 2 t) (iblk m c 3 t)) hy).trans
      (out5 m hs c t (y 0) (y 1) (y 2))).trans ?_
    refine congrArg (final (signal m c) (state m c)) (funext fun d => Fin.ext ?_)
    have hy0 : (y 0).val < 1 := (y 0).isLt
    match d with
    | ⟨0, _⟩ => show t.val = win0_5.index t 0 * 1 + 1 * (y 0).val; rw [h0]; omega
    | ⟨1, _⟩ => show (y 1).val = win0_5.index t 1 * 1 + 1 * (y 1).val; rw [h1]; omega
    | ⟨2, _⟩ => show (y 2).val = win0_5.index t 2 * 96 + 1 * (y 2).val; rw [h2]; omega
  · have i0 : (i 0).val < 64 := (i 0).isLt
    have i1 : (i 1).val < 1 := (i 1).isLt
    have i2 : (i 2).val < 96 := (i 2).isLt
    refine ⟨⟨(i 0).val, lt_of_lt_of_eq i0 N_0.symm⟩, flush0_5 _, ?_⟩
    obtain ⟨h0, h1, h2⟩ := (index_facts ⟨(i 0).val, lt_of_lt_of_eq i0 N_0.symm⟩).2.2.2.2.2
    replace h0 := h0.trans (show _ = (i 0).val from rfl)
    show (show S64x1x96.Idx from i) ∈ ((View.whole main_v21_1).slice (win0_5.rect ⟨(i 0).val, lt_of_lt_of_eq i0 N_0.symm⟩)).set
    rw [View.set_slice_whole, Rect.mem_set_unit]
    intro d
    match d with
    | ⟨0, _⟩ => show win0_5.index _ 0 * 1 ≤ (i 0).val ∧ (i 0).val < win0_5.index _ 0 * 1 + 1; rw [h0]; omega
    | ⟨1, _⟩ => show win0_5.index _ 1 * 1 ≤ (i 1).val ∧ (i 1).val < win0_5.index _ 1 * 1 + 1; rw [h1]; omega
    | ⟨2, _⟩ => show win0_5.index _ 2 * 96 ≤ (i 2).val ∧ (i 2).val < win0_5.index _ 2 * 96 + 96; rw [h2]; omega

/-- The run, read: the two results, the arguments unchanged. -/
theorem run : θ_run defs (onTc (τ := τ) (main (F := Ideal))) ⟨m, fun _ => 0, ρ⟩ fun r => ∀ c : Dev nD,
      r.2.mem ((c : Thread nD τ).loc main_v21_0) = (scaled (signal m c) (state m c) : S64x2x4000x96.Idx → EReal)
      ∧ r.2.mem ((c : Thread nD τ).loc main_v21_1) = (final (signal m c) (state m c) : S64x1x96.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (array4 m hs c), (h c).2.1.trans (array5 m hs c), (h c).2.2⟩) (run_blocks m ρ)

end

end Cert.KernelIdeal.Arrays

end
-- ==== Proof.Trip.lean ====
/-
  ONE STEP OF THE REFERENCE over the extended reals: what one trip of its loop makes of the buffers it carries, entry by entry,
  when the counter is `k`. The step reads row `k` of the signal, moves the running average on, and writes row `k` of the result.
-/
module

public import proofs.«01_k».proof.Proof.Gen.ReferenceIdeal.Run
public import proofs.«01_k».proof.Proof.Average
public import Idealize.ShloMosaic.Lib.ValueIdx
public import Idealize.ShloMosaic.Lib.ValueLayout
public import Idealize.ShloMosaic.Lib.Pointwise
public import Idealize.ShloMosaic.Lib.IdealHost
public import Idealize.ShloMosaic.Lib.DynamicIndex
public import Idealize.ShloMosaic.Lib.Pipeline.Value

@[expose] public section

set_option maxRecDepth 16384

noncomputable section

namespace Cert.ReferenceIdeal.Trip

open Cert.ReferenceIdeal Cert.ReferenceIdeal.Gen Cert.ReferenceIdeal.Value Idealize.ShloMosaic Idealize.ShloMosaic.TcCoe
open Idealize.SL.Sem

variable (V : Valuation τ sig (Elt Ideal))

/-- The signal, time first. -/
abbrev rows : S4000x64x2x96.Idx → EReal := V (Proc.devRef .tc main_v3_0)
/-- The counter. -/
abbrev counter : S_.Idx → BitVec 32 := V (Proc.devRef .tc main_v3_1)
/-- The running average. -/
abbrev carried : S64x1x96.Idx → EReal := V (Proc.devRef .tc main_v3_2)
/-- The result, time first. -/
abbrev written : S4000x64x2x96.Idx → EReal := V (Proc.devRef .tc main_v3_3)

/-- The start of the row at count `k`. -/
def start (k : ℕ) : Fin 4 → ℕ := ![k, 0, 0, 0]

theorem fits (k : Fin 4000) : S4000x64x2x96.Slices (start k.val) S1x64x2x96 := by
  refine ⟨rfl, fun a => ?_⟩
  have hk := k.isLt
  match a with
  | ⟨0, _⟩ => show k.val + 1 ≤ 4000; omega
  | ⟨1, _⟩ => show 0 + 64 ≤ 64; omega
  | ⟨2, _⟩ => show 0 + 2 ≤ 2; omega
  | ⟨3, _⟩ => show 0 + 96 ≤ 96; omega

/-- The four words that start the row are `k, 0, 0, 0`. -/
theorem start_eq (k : Fin 4000) (z : S_.Idx → BitVec 32) (hz : z = fun _ => BitVec.ofNat 32 k.val) (a : Fin 4) :
    ((![z, constantI S_ 32 0#32, constantI S_ 32 0#32, constantI S_ 32 0#32] : Fin 4 → S_.Idx → BitVec 32) a (Shape.Idx.first h_S_)).toInt
      = (start k.val a : Int) := by
  have hk := k.isLt
  subst hz
  match a with
  | ⟨0, _⟩ => exact toInt_ofNat_of_lt (by omega)
  | ⟨1, _⟩ => rfl
  | ⟨2, _⟩ => rfl
  | ⟨3, _⟩ => rfl

section
variable {V} {k : Fin 4000} (hc : counter V = fun _ => BitVec.ofNat 32 k.val)

include hc

/-- The row the step reads. -/
theorem read_apply (b : Fin 64) (ch : Fin 2) (f : Fin 96) :
    (res_main_while0b_v5 V : S64x2x96.Idx → EReal) (ValueIdx.ix3 b ch f) = rows V (ValueIdx.ix4 k b ch f) := by
  unfold res_main_while0b_v5
  refine (ValueIdx.shapeCast_1abc_abc_apply _ _ b ch f).trans ?_
  refine (congrFun (Host.dynamicSlice_eq_extractStridedSlice S1x64x2x96 (rows V) _ (start k.val) _ (fits k)
    (start_eq k _ hc)) _).trans ?_
  refine extractStridedSlice_apply _ _ _ _ _ fun a => ?_
  match a with
  | ⟨0, _⟩ => show k.val = k.val + 0; omega
  | ⟨1, _⟩ => show b.val = 0 + b.val; omega
  | ⟨2, _⟩ => show ch.val = 0 + ch.val; omega
  | ⟨3, _⟩ => show f.val = 0 + f.val; omega

/-- The running average after the step. -/
theorem average_apply (b : Fin 64) (f : Fin 96) :
    (res_main_while0b_v13 V : S64x1x96.Idx → EReal) (ValueIdx.ix3 b 0 f)
      = (rows V (ValueIdx.ix4 k b 0 f) * rows V (ValueIdx.ix4 k b 0 f) + rows V (ValueIdx.ix4 k b 1 f) * rows V (ValueIdx.ix4 k b 1 f))
          * Average.fresh + carried V (ValueIdx.ix3 b 0 f) * Average.kept := by
  unfold res_main_while0b_v13
  rw [ValueIdx.addf_apply, ValueIdx.mulf_apply, ValueIdx.mulf_apply, ValueIdx.broadcastInDim_scalar_apply, ValueIdx.broadcastInDim_scalar_apply]
  refine congrArg₂ (· + ·) (congrArg (· * Average.fresh) ?_) rfl
  refine (broadcastInDim_apply _ _ _ _ (ValueIdx.ix2 b f) fun a => ?_).trans ?_
  · match a with
    | ⟨0, _⟩ => rfl
    | ⟨1, _⟩ => rfl
  rw [ValueIdx.hostReduceAdd_apply]
  refine (Ideal.hostReduceAdd_r3_a1 _ _ _ _).trans ?_
  rw [ValueIdx.constant_apply, Ideal.ofBits_zero_f32, zero_add, Fin.sum_univ_two, ValueIdx.mulf_apply, ValueIdx.mulf_apply]
  exact congrArg₂ (fun x y : EReal => x * x + y * y) (read_apply hc b 0 f) (read_apply hc b 1 f)

/-- The row the step writes. -/
theorem quotient_apply (a : Fin 1) (b : Fin 64) (ch : Fin 2) (f : Fin 96) :
    (broadcastInDim S1x64x2x96 ![1, 2, 3] bcast_S64x2x96_S1x64x2x96_1_2_3
        (Host.divf (res_main_while0b_v5 V) (broadcastInDim S64x2x96 ![0, 1, 2] bcast_S64x1x96_S64x2x96_0_1_2
          (Host.sqrt (res_main_while0b_v13 V)))) : S1x64x2x96.Idx → EReal) (ValueIdx.ix4 a b ch f)
      = Ideal.div (rows V (ValueIdx.ix4 k b ch f)) (Ideal.sqrt ((res_main_while0b_v13 V : S64x1x96.Idx → EReal) (ValueIdx.ix3 b 0 f))) := by
  refine (broadcastInDim_apply _ _ _ _ (ValueIdx.ix3 b ch f) fun d => ?_).trans ?_
  · match d with
    | ⟨0, _⟩ => rfl
    | ⟨1, _⟩ => rfl
    | ⟨2, _⟩ => rfl
  refine congrArg₂ Ideal.div (read_apply hc b ch f) ?_
  refine (broadcastInDim_apply _ _ _ _ (ValueIdx.ix3 b 0 f) fun d => ?_).trans rfl
  match d with
  | ⟨0, _⟩ => rfl
  | ⟨1, _⟩ => rfl
  | ⟨2, _⟩ => rfl

/-- The counter after the step. -/
theorem counter_step : counter (STEP V) = fun _ => BitVec.ofNat 32 (k.val + 1) := by
  show STEP V (Proc.devRef .tc main_v3_1) = _
  rw [STEP_main_v3_1]
  unfold step_main_v3_1
  funext i
  show IntOp.addi (counter V i) 1#32 = _
  rw [hc]
  exact (BitVec.ofNat_add k.val 1).symm

/-- The running average after the step. -/
theorem carried_step (b : Fin 64) (f : Fin 96) :
    carried (STEP V) (ValueIdx.ix3 b 0 f)
      = (rows V (ValueIdx.ix4 k b 0 f) * rows V (ValueIdx.ix4 k b 0 f) + rows V (ValueIdx.ix4 k b 1 f) * rows V (ValueIdx.ix4 k b 1 f))
          * Average.fresh + carried V (ValueIdx.ix3 b 0 f) * Average.kept :=
  (congrFun (STEP_main_v3_2 V) _).trans (average_apply hc b f)

/-- The result after the step: row `k` is new. -/
theorem written_step (t : Fin 4000) (b : Fin 64) (ch : Fin 2) (f : Fin 96) :
    written (STEP V) (ValueIdx.ix4 t b ch f)
      = if t = k then Ideal.div (rows V (ValueIdx.ix4 k b ch f)) (Ideal.sqrt (carried (STEP V) (ValueIdx.ix3 b 0 f)))
        else written V (ValueIdx.ix4 t b ch f) := by
  have hk := k.isLt
  refine (congrFun (STEP_main_v3_3 V) _).trans ?_
  unfold step_main_v3_3
  refine (congrFun (Host.dynamicUpdateSlice_eq_updateSlice (written V) _ _ _ (start k.val) (fun a => ?_) (fits k)) _).trans ?_
  · rw [start_eq k _ hc]
    match a with
    | ⟨0, _⟩ => show (min (max (k.val : Int) 0) ((4000 - 1 : Nat) : Int)).toNat = k.val; omega
    | ⟨1, _⟩ => rfl
    | ⟨2, _⟩ => rfl
    | ⟨3, _⟩ => rfl
  rw [updateSlice_apply]
  by_cases e : t = k
  · subst e
    rw [if_pos rfl, dif_pos]
    · refine (congrArg _ (?_ : _ = ValueIdx.ix4 0 b ch f)).trans ((quotient_apply hc 0 b ch f).trans
        (congrArg (fun z : EReal => Ideal.div _ (Ideal.sqrt z)) (congrFun (STEP_main_v3_2 V) _).symm))
      funext a
      refine Fin.ext ?_
      match a with
      | ⟨0, _⟩ => show t.val - t.val = 0; omega
      | ⟨1, _⟩ => rfl
      | ⟨2, _⟩ => rfl
      | ⟨3, _⟩ => rfl
    · intro a
      match a with
      | ⟨0, _⟩ => show t.val ≤ t.val ∧ t.val < t.val + 1; omega
      | ⟨1, _⟩ => exact ⟨Nat.zero_le _, (Nat.zero_add 64).symm ▸ b.isLt⟩
      | ⟨2, _⟩ => exact ⟨Nat.zero_le _, (Nat.zero_add 2).symm ▸ ch.isLt⟩
      | ⟨3, _⟩ => exact ⟨Nat.zero_le _, (Nat.zero_add 96).symm ▸ f.isLt⟩
  · rw [if_neg e, dif_neg]
    intro h
    have h0 : k.val ≤ t.val ∧ t.val < k.val + 1 := h 0
    exact e (Fin.ext (by omega))

end

end Cert.ReferenceIdeal.Trip

end
-- ==== Proof.Scan.lean ====
/-
  THE REFERENCE'S TWO RESULTS over the extended reals, by induction on the trips of its loop: after `k` trips the carried average is
  the running average before step `k`, and the rows of the result below `k` are the signal over the square root of it.
-/
module

public import proofs.«01_k».proof.Proof.Trip

@[expose] public section

set_option maxRecDepth 16384

noncomputable section

namespace Cert.ReferenceIdeal.Scan

open Cert.ReferenceIdeal Cert.ReferenceIdeal.Gen Cert.ReferenceIdeal.Value Cert.ReferenceIdeal.Trip
open Idealize.ShloMosaic Idealize.ShloMosaic.TcCoe Idealize.ShloMosaic.StableHlo
open Idealize.SL.Sem

variable (m : (ℓ : Loc nD τ sig) → Buf (Elt Ideal) ℓ) (ρ : Dev nD → PrngReg)

/-- The signal. -/
abbrev signal (c : Dev nD) : S64x2x4000x96.Idx → EReal := m ((c.tc : Thread nD τ).loc main_arg0)
/-- The state that comes in. -/
abbrev state (c : Dev nD) : S1x1x96.Idx → EReal := m ((c.tc : Thread nD τ).loc main_arg1)

/-- The running average of batch `b`, frequency bin `f`, before step `t`. -/
def meanAt (X : S64x2x4000x96.Idx → EReal) (Z : S1x1x96.Idx → EReal) (b : Fin 64) (f : Fin 96) (t : ℕ) : EReal :=
  Average.mean (fun ch r => X (ValueIdx.ix4 b ch r f)) (Z (ValueIdx.ix3 0 0 f)) t

/-- The first result. -/
def quotient (X : S64x2x4000x96.Idx → EReal) (Z : S1x1x96.Idx → EReal) (i : S64x2x4000x96.Idx) : EReal :=
  Ideal.div (X i) (Ideal.sqrt (meanAt X Z (i 0) (i 3) ((i 2).val + 1)))

/-- The second result. -/
def final (X : S64x2x4000x96.Idx → EReal) (Z : S1x1x96.Idx → EReal) (i : S64x1x96.Idx) : EReal := meanAt X Z (i 0) (i 2) 4000

/-! ## The loop's entry -/

theorem entry_rows (c : Dev nD) (t : Fin 4000) (b : Fin 64) (ch : Fin 2) (f : Fin 96) :
    rows (entryContents preI m c) (ValueIdx.ix4 t b ch f) = signal m c (ValueIdx.ix4 b ch t f) := by
  have e : rows (entryContents preI m c)
      = transpose S4000x64x2x96 [2, 0, 1, 3] (signal m c) transposes_S64x2x4000x96_S4000x64x2x96_2_0_1_3 := by
    show entryContents preI m c (Proc.devRef .tc main_v3_0) = _
    simp only [entryContents, afterL_cons, afterL_nil, hostOps0]
    after_results
    rfl
  rw [e]
  refine transpose_apply _ _ _ _ _ fun d => ?_
  match d with
  | ⟨0, _⟩ => rfl
  | ⟨1, _⟩ => rfl
  | ⟨2, _⟩ => rfl
  | ⟨3, _⟩ => rfl

theorem entry_carried (c : Dev nD) (b : Fin 64) (f : Fin 96) :
    carried (entryContents preI m c) (ValueIdx.ix3 b 0 f) = state m c (ValueIdx.ix3 0 0 f) := by
  have e : carried (entryContents preI m c)
      = broadcastInDim S64x1x96 ![0, 1, 2] bcast_S1x1x96_S64x1x96_0_1_2 (state m c) := by
    show entryContents preI m c (Proc.devRef .tc main_v3_2) = _
    simp only [entryContents, afterL_cons, afterL_nil, hostOps0]
    after_results
    rfl
  rw [e]
  refine broadcastInDim_apply _ _ _ _ _ fun d => ?_
  match d with
  | ⟨0, _⟩ => rfl
  | ⟨1, _⟩ => rfl
  | ⟨2, _⟩ => rfl

/-! ## After `k` trips -/

/-- The carried buffers after `k` trips. -/
structure After (c : Dev nD) (k : ℕ) (V : Valuation τ sig (Elt Ideal)) : Prop where
  rows_eq : ∀ t b ch f, rows V (ValueIdx.ix4 t b ch f) = signal m c (ValueIdx.ix4 b ch t f)
  counter_eq : counter V = fun _ => BitVec.ofNat 32 k
  carried_eq : ∀ b f, carried V (ValueIdx.ix3 b 0 f) = meanAt (signal m c) (state m c) b f k
  written_eq : ∀ (t : Fin 4000) b ch f, t.val < k →
    written V (ValueIdx.ix4 t b ch f) = quotient (signal m c) (state m c) (ValueIdx.ix4 b ch t f)

theorem after_zero (c : Dev nD) : After m c 0 (entryContents preI m c) where
  rows_eq := entry_rows m c
  counter_eq := ctr_entry m c
  carried_eq b f := (entry_carried m c b f).trans (Average.mean_zero _ _).symm
  written_eq _ _ _ _ h := absurd h (Nat.not_lt_zero _)

/-- One trip moves every average one step on. -/
theorem carried_next {c : Dev nD} {V : Valuation τ sig (Elt Ideal)} (k : Fin 4000) (h : After m c k.val V) (b : Fin 64) (f : Fin 96) :
    carried (STEP V) (ValueIdx.ix3 b 0 f) = meanAt (signal m c) (state m c) b f (k.val + 1) := by
  rw [carried_step h.counter_eq b f, h.rows_eq, h.rows_eq, h.carried_eq]
  unfold meanAt
  rw [Average.mean_succ, Average.energy_of_lt]

theorem after_succ {c : Dev nD} {V : Valuation τ sig (Elt Ideal)} (k : Fin 4000) (h : After m c k.val V) :
    After m c (k.val + 1) (STEP V) where
  rows_eq t b ch f := (congrFun (STEP_main_v3_0 V) _).trans (h.rows_eq t b ch f)
  counter_eq := counter_step h.counter_eq
  carried_eq := carried_next m k h
  written_eq t b ch f ht := by
    rw [written_step h.counter_eq t b ch f]
    by_cases e : t = k
    · subst e
      rw [if_pos rfl, h.rows_eq, carried_next m t h b f]
      rfl
    · rw [if_neg e]
      exact h.written_eq t b ch f (by have : t.val ≠ k.val := fun q => e (Fin.ext q); omega)

theorem after_all (c : Dev nD) : ∀ k, k ≤ 4000 → After m c k (STEP^[k] (entryContents preI m c))
  | 0, _ => after_zero m c
  | k + 1, hk => by
    rw [Function.iterate_succ_apply']
    exact after_succ m ⟨k, hk⟩ (after_all c k (Nat.le_of_succ_le hk))

/-! ## The results -/

theorem result0 (c : Dev nD) :
    (out_main_v4 (STEP^[4000] (entryContents preI m c)) : S64x2x4000x96.Idx → EReal) = quotient (signal m c) (state m c) := by
  funext i
  obtain ⟨b, ch, t, f, rfl⟩ : ∃ b ch t f, i = ValueIdx.ix4 b ch t f := ⟨i 0, i 1, i 2, i 3, ValueIdx.eq_ix4 i⟩
  unfold out_main_v4
  refine (transpose_apply _ _ _ _ (ValueIdx.ix4 t b ch f) fun d => ?_).trans ((after_all m c 4000 le_rfl).written_eq t b ch f t.isLt)
  match d with
  | ⟨0, _⟩ => rfl
  | ⟨1, _⟩ => rfl
  | ⟨2, _⟩ => rfl
  | ⟨3, _⟩ => rfl

theorem result1 (c : Dev nD) : carried (STEP^[4000] (entryContents preI m c)) = final (signal m c) (state m c) := by
  funext i
  obtain ⟨b, z, f, rfl⟩ : ∃ b z f, i = ValueIdx.ix3 b z f := ⟨i 0, i 1, i 2, ValueIdx.eq_ix3 i⟩
  obtain rfl := Subsingleton.elim (0 : Fin 1) z
  exact (after_all m c 4000 le_rfl).carried_eq b f

/-- The run, read: the two results, the arguments unchanged. -/
theorem run : θ_run (defs (F := Ideal)) (onTc (τ := τ) (main (F := Ideal))) ⟨m, fun _ => 0, ρ⟩ fun r => ∀ c : Dev nD,
      r.2.mem ((c.tc : Thread nD τ).loc main_v4) = (quotient (signal m c) (state m c) : S64x2x4000x96.Idx → EReal)
      ∧ r.2.mem ((c.tc : Thread nD τ).loc main_v3_2) = (final (signal m c) (state m c) : S64x1x96.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result0 m c), (h c).2.1.trans (result1 m c), (h c).2.2⟩) (Value.run m ρ)

end Cert.ReferenceIdeal.Scan

end
-- ==== Proof.Equation.lean ====
/-
  THE EQUATION: on a positive state the kernel's two results are the reference's. Both run the same average; the kernel multiplies
  by a reciprocal square root where the reference divides by a square root, and the average stays positive.
-/
module

public import proofs.«01_k».proof.Proof.Arrays
public import proofs.«01_k».proof.Proof.Scan
public import proofs.«01_k».proof.Pre_state_positive

@[expose] public section

noncomputable section

namespace Cert.Equation

open Idealize.ShloMosaic

/-- What the precondition says: every entry of the state is positive. -/
theorem positive [Cert.Pre_state_positive.Facts] (X : Cert.Pre_state_positive.S64x2x4000x96.Idx → EReal)
    (Z : Cert.Pre_state_positive.S1x1x96.Idx → EReal) (h : Cert.Pre_state_positive.fn (F := Ideal) X Z = fun _ => 1#1)
    (i : Cert.Pre_state_positive.S1x1x96.Idx) : 0 < Z i := by
  have e : Ideal.cmp .ogt (Z i) (Ideal.ofBits .f32 0x00000000#32) = 1#1 := congrFun h i
  rw [Ideal.cmp_ogt, Ideal.ofBits_zero_f32] at e
  by_contra hn
  rw [decide_eq_false hn] at e
  exact absurd e (by decide)

/-- The first results agree. -/
theorem scaled_eq_quotient (X : Cert.KernelIdeal.S64x2x4000x96.Idx → EReal) (Z : Cert.KernelIdeal.S1x1x96.Idx → EReal)
    (hs : ∀ f : Fin 96, 0 < Z (ValueIdx.ix3 0 0 f)) : Cert.KernelIdeal.Arrays.scaled X Z = Cert.ReferenceIdeal.Scan.quotient X Z := by
  funext i
  exact Average.mul_rsqrt _ _ (Average.mean_pos _ (hs (i 3)) _)

/-- The second results agree. -/
theorem final_eq (X : Cert.KernelIdeal.S64x2x4000x96.Idx → EReal) (Z : Cert.KernelIdeal.S1x1x96.Idx → EReal) :
    Cert.KernelIdeal.Arrays.final X Z = Cert.ReferenceIdeal.Scan.final X Z := rfl

end Cert.Equation

end
-- ==== Proof.lean ====
/-
  The proof of `Cert.Claim` (proofs.«01_k».proof.Defs). The frames of the kernel and of its ideal program are the generated ones.
  The reference's frame and the value claim are put together from Proof/Arrays.lean (what the kernel leaves), Proof/Scan.lean (what
  the reference leaves) and Proof/Equation.lean (that the two are one function on a positive state).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The side condition of the printed precondition. -/
theorem positive_facts : Cert.Pre_state_positive.Facts := ⟨by decide⟩

section
variable [Cert.Pre_state_positive.Facts]

/-- The reference runs, keeps its arguments and leaves no counter raised: it declares none. -/
theorem reference_quiescent : Cert.quiescent_ReferenceIdeal (hReferenceIdeal := Cert.ReferenceIdeal.Gen.facts) := fun m g _ =>
  (θ_run Cert.ReferenceIdeal.defs _ _).mono
    (fun r h => ⟨fun c => (h c).2.2, sem_eq_zero_of_no_sems (by decide) r.2⟩) (Cert.ReferenceIdeal.Scan.run m g)

/-- On a positive state the two programs leave the same two results. -/
theorem results_agree : Cert.algebraic_KernelIdeal_ReferenceIdeal (hKernelIdeal := Cert.KernelIdeal.Gen.facts)
    (hReferenceIdeal := Cert.ReferenceIdeal.Gen.facts) := by
  intro m g m' g' hpre hargs
  have hs : ∀ c f, 0 < Cert.KernelIdeal.Arrays.state m c (ValueIdx.ix3 0 0 f) := fun c f => Cert.Equation.positive _ _ (hpre c) _
  refine ⟨_, _, Cert.KernelIdeal.Arrays.run m g hs, (θ_run Cert.ReferenceIdeal.defs _ _).mono (fun r h c => ?_)
    (Cert.ReferenceIdeal.Scan.run m' g')⟩
  obtain ⟨h0, h1, ha⟩ := h c
  have e0 : Cert.ReferenceIdeal.Scan.signal m' c = Cert.KernelIdeal.Arrays.signal m c := (hargs c).1
  have e1 : Cert.ReferenceIdeal.Scan.state m' c = Cert.KernelIdeal.Arrays.state m c := (hargs c).2
  rw [e0, e1] at h0 h1
  exact ⟨h0.trans (Cert.Equation.scaled_eq_quotient _ _ (hs c)).symm, h1.trans (Cert.Equation.final_eq _ _).symm, ha⟩

end

theorem claim : Cert.Claim := ⟨Cert.Kernel.Gen.facts, Cert.KernelIdeal.Gen.facts, Cert.ReferenceIdeal.Gen.facts, positive_facts,
  fun m g _ => Cert.Kernel.Gen.frame m g, fun m g _ => Cert.KernelIdeal.Gen.frame m g,
  @reference_quiescent positive_facts, trivial, @results_agree positive_facts⟩

end Cert.Proof

end
